-- ==== Defs.lean ====
def Pre_Kernel [hPre_layer_in_range : Cert.Pre_layer_in_range.Facts] (m : (ℓ : Loc Cert.Kernel.nD Cert.Kernel.τ Cert.Kernel.sig) → Buf (Elt Bits) ℓ) : Prop :=
  ∀ c : Dev Cert.Kernel.nD,
    (Cert.Pre_layer_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_layer_in_range : Cert.Pre_layer_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_layer_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_layer_in_range [hPre_layer_in_range : Cert.Pre_layer_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_layer_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_layer_in_range : Cert.Pre_layer_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_layer_in_range : Cert.Pre_layer_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_layer_in_range [hReferenceIdeal : Cert.ReferenceIdeal.Facts] [hPre_layer_in_range : Cert.Pre_layer_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_layer_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_layer_in_range : Cert.Pre_layer_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_layer_in_range : Cert.Pre_layer_in_range.Facts),
    quiescent_Kernel (hKernel := hKernel) (hPre_layer_in_range := hPre_layer_in_range)
    ∧ quiescent_KernelIdeal (hKernelIdeal := hKernelIdeal) (hPre_layer_in_range := hPre_layer_in_range)
    ∧ quiescent_ReferenceIdeal (hReferenceIdeal := hReferenceIdeal)
    ∧ quiescent_ReferenceIdeal_pre_layer_in_range (hReferenceIdeal := hReferenceIdeal) (hPre_layer_in_range := hPre_layer_in_range)
    ∧ preserves_Kernel_KernelIdeal
    ∧ algebraic_KernelIdeal_ReferenceIdeal (hKernelIdeal := hKernelIdeal) (hReferenceIdeal := hReferenceIdeal) (hPre_layer_in_range := hPre_layer_in_range)
-- ==== Pre_layer_in_range.lean ====
abbrev S_ : Shape := ⟨0, ![]⟩
abbrev S32768x4096 : Shape := ⟨2, ![32768, 4096]⟩
abbrev S16x64x4096 : Shape := ⟨3, ![16, 64, 4096]⟩

class Facts : Prop where

variable [Facts]

def fn {F : FTy → Type} [FloatOps F] (main_arg0 : IVec S_ 32) (main_arg1 : FVec F S32768x4096 .f32) (main_arg2 : FVec F S16x64x4096 .f32) : IVec S_ 1 :=
  let main_c : IVec S_ 32 := constantI S_ 32 0#32
  let main_v0 : IVec S_ 1 := cmpi .sge main_arg0 main_c
  let main_c_0 : IVec S_ 32 := constantI S_ 32 16#32
  let main_v1 : IVec S_ 1 := cmpi .slt main_arg0 main_c_0
  let main_v2 : IVec S_ 1 := andi main_v0 main_v1
  main_v2
-- ==== Kernel.lean ====
abbrev S_ : Shape := ⟨0, ![]⟩
abbrev S32768x4096 : Shape := ⟨2, ![32768, 4096]⟩
abbrev S16x64x4096 : Shape := ⟨3, ![16, 64, 4096]⟩
abbrev S1 : Shape := ⟨1, ![1]⟩
abbrev S64x32768 : Shape := ⟨2, ![64, 32768]⟩
abbrev S512x4096 : Shape := ⟨2, ![512, 4096]⟩
abbrev S64x512 : Shape := ⟨2, ![64, 512]⟩
abbrev S64x4096 : Shape := ⟨2, ![64, 4096]⟩
abbrev S1x64x4096 : Shape := ⟨3, ![1, 64, 4096]⟩
abbrev S512x64 : Shape := ⟨2, ![512, 64]⟩
abbrev S32768x64 : Shape := ⟨2, ![32768, 64]⟩

abbrev nBuf : Space → Nat
  | .hbm => 5
  | .vmem => 5
  | .smem => 1
  | _ => 0

abbrev bufTy : (tb : Table) → Fin (tcTables nBuf tb) → BufTy
  | .hbm, ⟨0, _⟩ => ⟨S_, .i32⟩
  | .hbm, ⟨1, _⟩ => ⟨S32768x4096, .f32⟩
  | .hbm, ⟨2, _⟩ => ⟨S16x64x4096, .f32⟩
  | .hbm, ⟨3, _⟩ => ⟨S64x32768, .f32⟩
  | .hbm, ⟨4, _⟩ => ⟨S32768x64, .f32⟩
  | .local _ .vmem, ⟨0, _⟩ => ⟨S512x4096, .f32⟩
  | .local _ .vmem, ⟨1, _⟩ => ⟨S512x4096, .f32⟩
  | .local _ .vmem, ⟨2, _⟩ => ⟨S64x512, .f32⟩
  | .local _ .vmem, ⟨3, _⟩ => ⟨S64x512, .f32⟩
  | .local _ .vmem, ⟨4, _⟩ => ⟨S64x4096, .f32⟩
  | .local _ .smem, ⟨0, _⟩ => ⟨S1, .i32⟩
  | _, _ => ⟨S_, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (v8 : BitVec 32) : Fin 3 → Nat :=
  let c0_i32_7 : BitVec 32 := 0#32
  let c0_i32_8 : BitVec 32 := 0#32
  ![v8.toNat, 0, 0]

def k0_chk1 (i : grid0.Coords) (v8 : BitVec 32) : Prop :=
  (∀ (k0_h1 : k0_cond1 i = 1#1), ∀ a, (k0_off1 v8) a + S1x64x4096.size a ≤ S16x64x4096.size a)
theorem k0_off1_inb : ∀ (i : grid0.Coords) (v8 : BitVec 32) (k0_hw1 : k0_chk1 i v8), ∀ (k0_h1 : k0_cond1 i = 1#1), ∀ a, (k0_off1 v8) a + S1x64x4096.size a ≤ S16x64x4096.size a := fun i v8 k0_hw1 k0_h1 => k0_hw1 k0_h1

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S_ : Shape := ⟨0, ![]⟩
abbrev S32768x4096 : Shape := ⟨2, ![32768, 4096]⟩
abbrev S16x64x4096 : Shape := ⟨3, ![16, 64, 4096]⟩
abbrev S1x64x4096 : Shape := ⟨3, ![1, 64, 4096]⟩
abbrev S64x4096 : Shape := ⟨2, ![64, 4096]⟩
abbrev S4096x64 : Shape := ⟨2, ![4096, 64]⟩
abbrev S32768x64 : Shape := ⟨2, ![32768, 64]⟩

abbrev nBuf : Space → Nat
  | .hbm => 28
  | .vmem => 0
  | .smem => 0
  | _ => 0

abbrev bufTy : (tb : Table) → Fin (tcTables nBuf tb) → BufTy
  | .hbm, ⟨0, _⟩ => ⟨S_, .i32⟩
  | .hbm, ⟨1, _⟩ => ⟨S32768x4096, .f32⟩
  | .hbm, ⟨2, _⟩ => ⟨S16x64x4096, .f32⟩
  | .hbm, ⟨3, _⟩ => ⟨S_, .i32⟩
  | .hbm, ⟨4, _⟩ => ⟨S_, .i1⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i1⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S1x64x4096, .f32⟩
  | .hbm, ⟨25, _⟩ => ⟨S64x4096, .f32⟩
  | .hbm, ⟨26, _⟩ => ⟨S4096x64, .f32⟩
  | .hbm, ⟨27, _⟩ => ⟨S32768x64, .f32⟩
  | _, _ => ⟨S_, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_c_0 : Ref sig .tc := ⟨.hbm, 5, rfl⟩
abbrev main_v1 : Ref sig .tc := ⟨.hbm, 6, rfl⟩
abbrev main_v2 : Ref sig .tc := ⟨.hbm, 7, rfl⟩
abbrev main_c_1 : Ref sig .tc := ⟨.hbm, 8, rfl⟩
abbrev main_c_2 : Ref sig .tc := ⟨.hbm, 9, rfl⟩
abbrev main_v3 : Ref sig .tc := ⟨.hbm, 10, rfl⟩
abbrev main_c_3 : Ref sig .tc := ⟨.hbm, 11, rfl⟩
abbrev main_c_4 : Ref sig .tc := ⟨.hbm, 12, rfl⟩
abbrev main_v4 : Ref sig .tc := ⟨.hbm, 13, rfl⟩
abbrev main_c_5 : Ref sig .tc := ⟨.hbm, 14, rfl⟩
abbrev main_v5 : Ref sig .tc := ⟨.hbm, 15, rfl⟩
abbrev main_c_6 : Ref sig .tc := ⟨.hbm, 16, rfl⟩
abbrev main_c_7 : Ref sig .tc := ⟨.hbm, 17, rfl⟩
abbrev main_v6 : Ref sig .tc := ⟨.hbm, 18, rfl⟩
abbrev main_c_8 : Ref sig .tc := ⟨.hbm, 19, rfl⟩
abbrev main_c_9 : Ref sig .tc := ⟨.hbm, 20, rfl⟩
abbrev main_v7 : Ref sig .tc := ⟨.hbm, 21, rfl⟩
abbrev main_c_10 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩

abbrev nD : Nat := 1
abbrev τ : Topo := Topo.v7x

variable {F : FTy → Type} [FloatOps F]
-- ==== Proof.Body.lean ====
module

public import proofs.«01_k».proof.Proof.Gen.KernelIdeal
public import proofs.«01_k».proof.Proof.Gen.KernelIdeal.Skeleton
public import Idealize.ShloMosaic.Lib.Tactic
public import Idealize.ShloMosaic.Lib.Pipeline.Kit
public import Idealize.ShloMosaic.Lib.VecWindow

/-! # One grid point

At the first point the body copies the chosen layer's weights into its scratch; at every point it stores the product of
its rows with them. -/

@[expose] public section

noncomputable section

namespace Cert.Proof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- What the proof counts: the copies under way, and counters beside them. -/
abbrev UU (nD : Nat) (τ : Topo) : Type := UR sig nD τ × Counters

local notation "𝕄" => MT nD τ sig Unit (Elt F) ℕ (UU nD τ) ℕ

/-- Memref `M`'s buffer on core `c`, held whole at `f`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

/-- The slice of the weights that the table's word `w` names, seen as a 64 by 4096 array: what the kernel copies from. -/
abbrev layerRef (w : BitVec 32) (hw : ∀ a, k0_off1 w a + S1x64x4096.size a ≤ S16x64x4096.size a) : Memref sig .tc .hbm S64x4096 .f32 :=
  ((Memref.whole main_arg2).slice (Rect.unit (s := S16x64x4096) (k0_off1 w) S1x64x4096.size hw) (fun _ => rfl)).squeeze S64x4096
    squeezes_S1x64x4096_S64x4096

/-- The weights of the layer the word `w` names. -/
def layer (w : BitVec 32) (hw : ∀ a, k0_off1 w a + S1x64x4096.size a ≤ S16x64x4096.size a)
    (fW : main_arg2.ty.Contents (Elt F)) : Vec F S64x4096 .f32 :=
  (layerRef w hw).view.read (Elt F) fW

/-- The layer's weights depend on the word alone, not on the proof that it is in range. -/
theorem layer_congr {w w' : BitVec 32} (e : w = w') (hw : ∀ a, k0_off1 w a + S1x64x4096.size a ≤ S16x64x4096.size a)
    (hw' : ∀ a, k0_off1 w' a + S1x64x4096.size a ≤ S16x64x4096.size a) (fW : main_arg2.ty.Contents (Elt F)) :
    layer w hw fW = layer w' hw' fW := by
  subst e; rfl

/-- Reading the whole scratch after the copy gives what the copy wrote. -/
theorem read_scratch (fs v : cc0_scratch0.ty.Contents (Elt F)) :
    View.readAt (Elt F) (Memref.whole cc0_scratch0).view (Rect.unit ![0, 0] S64x4096.size inb_S64x4096_S64x4096_0_0).toLoadRect
      (View.write (Elt F) (Memref.whole cc0_scratch0).view fs v Finset.univ) = v :=
  (View.readAt_full (View.whole cc0_scratch0) _ inb_S64x4096_S64x4096_0_0).trans (View.write_whole_univ (Val := Elt F) cc0_scratch0 fs v)

/-- The first grid point: from the word, the rows, the weights, any output block and any scratch, with the copy's
    counter at zero, the kernel leaves the layer's weights in the scratch and the block's scores in the output block. -/
theorem first (c : Dev nD) (i : grid0.Coords) (hi : k0_cond1 i = 1#1) (M0 : Memref sig .tc .vmem S512x4096 .f32) (h0 : M0.IsWhole)
    (M1 : Memref sig .tc .vmem S64x512 .f32) (h1 : M1.IsWhole)
    (fi : main_v0.ty.Contents (Elt F)) (w : BitVec 32) (hfi : ∀ j, fi j = w) (hw : ∀ a, k0_off1 w a + S1x64x4096.size a ≤ S16x64x4096.size a)
    (x : Vec F S512x4096 .f32) (fW : main_arg2.ty.Contents (Elt F)) (y : Vec F S64x512 .f32) (fs : cc0_scratch0.ty.Contents (Elt F))
    (W : Waits sig Unit) (Q : PUnit → sProp 𝕄) :
    iprop(pt c (Memref.whole main_v0) fi ∗ owns (c : Thread nD τ) M0 fullShare x
      ∗ pt c (Memref.whole main_arg2) fW ∗ owns (c : Thread nD τ) M1 fullShare y
      ∗ pt c (Memref.whole cc0_scratch0) fs
      ∗ semVal ((c : Thread nD τ), .dma 4) 0 ∗ owes (c : Thread nD τ) 0 W
      ∗ (iprop(pt c (Memref.whole main_v0) fi ∗ owns (c : Thread nD τ) M0 fullShare x
            ∗ pt c (Memref.whole main_arg2) fW ∗ owns (c : Thread nD τ) M1 fullShare (k0_pay1 x (layer w hw fW))
            ∗ pt c (Memref.whole cc0_scratch0) (layer w hw fW)
            ∗ semVal ((c : Thread nD τ), .dma 4) 0 ∗ ∃ W, owes (c : Thread nD τ) 0 W) -∗ Q ⟨⟩))
    ⊢ wp frame (wpE (defs₀ (F := F)) Variants.none c none) Set.univ
        (cc0__router_kernel i (Memref.whole main_v0) (Memref.isWhole_whole _) M0 h0 (Memref.whole main_arg2) (Memref.isWhole_whole _) M1 h1 (Memref.whole cc0_scratch0) (Memref.isWhole_whole _) cc0_scratch1) Q := by
  rw [cc0__router_kernel_eq_skeleton]; unfold cc0__router_kernel_skel
  rw [dif_pos hi]
  unfold owns; rw [h0.set_eq_univ, h1.set_eq_univ]
  iintro ⟨Hi, ⟨%f0, %hx, H0⟩, HW, ⟨%f1, -, H1⟩, Hs, Hd, HO, Hk⟩
  subst hx
  sl_exec!
  have e : first.sl.r fi = w := hfi _
  have hc : k0_chk1 i (first.sl.r fi) := by rw [e]; exact fun _ => hw
  sl_exec!
  sl_step
  have ed : first.sl.dma0 i hi fi fW hc = layer w hw fW := layer_congr e _ _ fW
  have ev : first.sl.v4 i hi fi fW fs hc = layer w hw fW := (read_scratch fs _).trans ed
  have es : View.write (Elt F) (Memref.whole cc0_scratch0).view fs (first.sl.dma0 i hi fi fW hc) Finset.univ = layer w hw fW :=
    (View.write_whole_univ (Val := Elt F) cc0_scratch0 fs _).trans ed
  rw [es]
  iapply Hk
  isplitl [Hi]; · iexact Hi
  isplitl [H0]; · iexists f0; isplitr; (· ipureintro; rfl); iexact H0
  isplitl [HW]; · iexact HW
  isplitl [H1]
  · iexists _; isplitr; swap; · iexact H1
    ipureintro
    delta first.sl.H1_1
    rw [ev]
    exact (View.read_writes_full M1.view _ inb_S64x512_S64x512_0_0 _ []).trans
      (congrArg (k0_pay1 · (layer w hw fW)) (View.readAt_full M0.view f0 inb_S512x4096_S512x4096_0_0))
  isplitl [Hs]
  · iexact Hs
  isplitl [Hd]; · iexact Hd
  iexists _; iexact HO

/-- A later grid point: the copy is not taken, the scratch is read as it stands and the block's scores go to the
    output block. -/
theorem later (c : Dev nD) (i : grid0.Coords) (hi : ¬ k0_cond1 i = 1#1) (M0 : Memref sig .tc .vmem S512x4096 .f32) (h0 : M0.IsWhole)
    (M1 : Memref sig .tc .vmem S64x512 .f32) (h1 : M1.IsWhole)
    (x : Vec F S512x4096 .f32) (y : Vec F S64x512 .f32) (fs : cc0_scratch0.ty.Contents (Elt F)) (W : Waits sig Unit) (Q : PUnit → sProp 𝕄) :
    iprop(owns (c : Thread nD τ) M0 fullShare x ∗ owns (c : Thread nD τ) M1 fullShare y ∗ pt c (Memref.whole cc0_scratch0) fs
      ∗ owes (c : Thread nD τ) 0 W
      ∗ (iprop(owns (c : Thread nD τ) M0 fullShare x ∗ owns (c : Thread nD τ) M1 fullShare (k0_pay1 x fs)
            ∗ pt c (Memref.whole cc0_scratch0) fs ∗ ∃ W, owes (c : Thread nD τ) 0 W) -∗ Q ⟨⟩))
    ⊢ wp frame (wpE (defs₀ (F := F)) Variants.none c none) Set.univ
        (cc0__router_kernel i (Memref.whole main_v0) (Memref.isWhole_whole _) M0 h0 (Memref.whole main_arg2) (Memref.isWhole_whole _) M1 h1 (Memref.whole cc0_scratch0) (Memref.isWhole_whole _) cc0_scratch1) Q := by
  rw [cc0__router_kernel_eq_skeleton]; unfold cc0__router_kernel_skel
  rw [dif_neg hi]
  unfold owns; rw [h0.set_eq_univ, h1.set_eq_univ]
  iintro ⟨⟨%f0, %hx, H0⟩, ⟨%f1, -, H1⟩, Hs, HO, Hk⟩
  subst hx
  sl_exec!
  sl_step
  iapply Hk
  isplitl [H0]; · iexists f0; isplitr; (· ipureintro; rfl); iexact H0
  isplitl [H1]
  · iexists _; isplitr; swap; · iexact H1
    ipureintro
    delta later.sl.H1_1
    exact (View.read_writes_full M1.view _ inb_S64x512_S64x512_0_0 _ []).trans
      (congrArg₂ k0_pay1 (View.readAt_full M0.view f0 inb_S512x4096_S512x4096_0_0)
        (View.readAt_full (View.whole cc0_scratch0) fs inb_S64x4096_S64x4096_0_0))
  isplitl [Hs]; · iexact Hs
  iexists _; iexact HO

end Cert.Proof

end
-- ==== Proof.Run.lean ====
module

public import proofs.«01_k».proof.Proof.Body
public import proofs.«01_k».proof.Proof.Gen.KernelIdeal.Launch
public import Idealize.ShloMosaic.Lib.Pipeline.Regions
public import Idealize.ShloMosaic.Lib.Pipeline.RegionsLoop
public import Idealize.ShloMosaic.Lib.Pipeline.FrameSuffix

/-! # The launch: the kernel's run from any memory whose layer index is in range

The program is three steps: the host puts the index in its one-word table, the kernel runs its sixty-four grid
points, the host turns the scores round. `run_main` runs them in a row and says what every buffer holds at the end. -/

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-- The pipeline library's algebra is the left component of the certificate's. -/
abbrev EP : Emb (UR sig nD τ) (MT nD τ sig Unit (Elt F) ℕ (UU nD τ) ℕ) := embL

variable (m : (ℓ : Loc nD τ sig) → Buf (Elt F) ℓ) (ρ : Dev nD → PrngReg)

/-! ## Before the region -/

/-- Core `c`'s buffers at launch; -/
abbrev V₀ (c : Dev nD) : Valuation τ sig (Elt F) := fun b => m ((c : Dev nD), b)
/-- and when the kernel is entered: the index has been put in its one-word table. -/
abbrev V₁ (c : Dev nD) : Valuation τ sig (Elt F) := StableHlo.after hostOps0 (V₀ m c)
/-- The same, at a buffer of the core's own. -/
abbrev V (c : Dev nD) (b : Ref sig .tc) : Buf (Elt F) ((c : Thread nD τ).loc b) := V₁ m c b

/-- The layer index the caller passed. -/
def word (c : Dev nD) : BitVec 32 := m ((c : Thread nD τ).loc main_arg0) (fun a => a.elim0)

/-- The index names one of the sixteen layers: its slice lies inside the weights. -/
def InRange : Prop := ∀ (c : Dev nD) a, k0_off1 (word m c) a + S1x64x4096.size a ≤ S16x64x4096.size a

/-- Filling the table writes nothing else. -/
theorem V_of_ne (c : Dev nD) (b : Ref sig .tc) (hb : b ≠ main_v0) : V m c b = m ((c : Thread nD τ).loc b) :=
  StableHlo.after_of_forall_not_mem (b := Proc.devRef .tc b) hostOps0 (V₀ m c) (by
    intro op hop
    simp only [List.mem_cons, List.mem_nil_iff, or_false] at hop
    subst hop
    rw [StableHlo.reshape_writes, Finset.mem_singleton]
    exact StableHlo.devRef_ne_of_ne hb)

/-- The table holds the index. -/
theorem V_table (c : Dev nD) (j : S1.Idx) : V m c main_v0 j = word m c := by
  show StableHlo.after hostOps0 (V₀ m c) (Proc.devRef .tc main_v0) j = _
  after_results
  exact congrArg (m ((c : Thread nD τ).loc main_arg0)) (funext fun a => a.elim0)

/-- The table's contents, which the pipeline is pinned at. -/
def adm : (p : Fin 1) → (pcfgs (F := F) p).Adm := fun _ => ⟨fun k => V m 0 (pre0.ref k), trivial⟩

/-- The pipeline, its table pinned. -/
abbrev cfgA : Cfg sig Λ₀ := Pipeline.pin (pcfgs (F := F)) (adm m) 0

/-! ## What each grid point finds and leaves -/

variable (hr : InRange m)

/-- The rows of the hidden states that grid point `t` is given. -/
def rows (c : Dev nD) (t : Fin grid0.N) : Vec F S512x4096 .f32 :=
  (((cfgA m).win 0).blk t).view.read (Elt F) (V m c main_arg1)

/-- The weights the scratch holds after the first point. -/
abbrev weights (c : Dev nD) : Vec F S64x4096 .f32 := layer (word m c) (hr c) (V m c main_arg2)

/-- What holds between grid points: the table and the weights as they were, the copy's counter at zero, and the scratch
    at the layer's weights once the first point is done. -/
def Φc (c : Dev nD) (n : ℕ) : sProp 𝕄 :=
  iprop(pt c (Memref.whole main_v0) (V m c main_v0) ∗ pt c (Memref.whole main_arg2) (V m c main_arg2)
    ∗ semVal ((c : Thread nD τ), .dma 4) 0
    ∗ ∃ fs : cc0_scratch0.ty.Contents (Elt F), ⌜n = 0 ∨ fs = weights m hr c⌝ ∗ pt c (Memref.whole cc0_scratch0) fs)

/-- The proof data: the arrays as they enter, each point leaving its rows as fetched and its block of scores. -/
def dats (p : Fin 1) (c : Dev nD) : Dat τ (Elt F) Unit ℕ (UU nD τ) ℕ (Pipeline.pin (pcfgs (F := F)) (adm m) p) c where
  A w := V m c (Pipeline.arrRef spec0 w)
  after w t := match w with
    | ⟨0, _⟩ => rows m c t
    | ⟨1, _⟩ => k0_pay1 (rows m c t) (weights m hr c)
  Φ t := Φc m hr c t.val
  q _ := fullShare
  owed _ := 0

/-- An array as the launch finds it is what the host line left in its buffer. -/
theorem A_eq (c : Dev nD) (w : Fin 2) : (dats m hr 0 c).A w = V m c (Pipeline.arrRef spec0 w) := by
  dsimp only [dats]

/-- Every point's first axis coordinate is the point. -/
theorem coord (t : Fin grid0.N) : (grid0.coords t 0).val = t.val := by
  have := t.isLt
  rw [Pipeline.Grid.coords_val t 0 (S := 1) (B := 64) (by decide) (by decide), Nat.div_one]
  exact Nat.mod_eq_of_lt (N_0 ▸ this)

/-- The copy is taken at the first point and at no other. -/
theorem cond_iff (t : Fin grid0.N) : k0_cond1 (grid0.coords t) = 1#1 ↔ t.val = 0 := by
  have h : ∀ n : Fin 64, Scalar.cmpi .ne (Scalar.extui (Scalar.cmpi .eq (BitVec.ofNat 32 n.val) 0#32) : BitVec 32) 0#32 = 1#1 ↔ n.val = 0 := by decide
  have := h ⟨(grid0.coords t 0).val, (grid0.coords t 0).isLt⟩
  rw [← coord t]
  exact this

/-- Every point fetches its own rows. -/
theorem fetch0 (t : Fin grid0.N) : ((cfgA m).win 0).fetch t = true := by
  rw [Pipeline.Window.fetch_in _ rfl]
  by_cases h : t.val = 0
  · exact .inl h
  refine .inr ⟨Nat.pos_of_ne_zero h, fun e => ?_⟩
  have e0 : (BitVec.ofNat 32 (grid0.coords t 0).val).toNat = (BitVec.ofNat 32 (grid0.coords ⟨t.val - 1, by omega⟩ 0).val).toNat :=
    congrFun e (0 : Fin 2)
  have := t.isLt; have hN := N_0
  rw [coord, coord, BitVec.toNat_ofNat, BitVec.toNat_ofNat] at e0
  simp only at e0
  omega

/-- So its buffer holds them when the body runs. -/
theorem before_in (c : Dev nD) (t : Fin grid0.N) (d) : (dats m hr 0 c).before 0 t d = rows m c t := by
  unfold Dat.before; rw [if_pos (fetch0 m t)]; rfl

/-- No loop of the program needs a variant. -/
abbrev 𝒱₀ : Variants := Variants.none

/-- The library's body obligation, from the two triples of the kernel. -/
theorem body_obligation (c : Dev nD) : BodyObligation (dats m hr 0 c) (defs₀ (F := F)) 𝒱₀ () Set.univ := fun t => by
  rw [bigSep_W0, bigSep_W0]
  rw [show (dats m hr 0 c).Φ t.castSucc = Φc m hr c t.val from rfl, show (dats m hr 0 c).Φ t.succ = Φc m hr c (t.val + 1) from rfl]
  unfold Φc Dat.owesAt Pipeline.owesWithin
  rw [show (dats m hr 0 c).owed t.castSucc = 0 from rfl, show (dats m hr 0 c).owed t.succ = 0 from rfl]
  iintro ⟨⟨Hi, HW, Hd, ⟨%fs, %hfs, Hs⟩⟩, ⟨%W, %hW, HO⟩, ⟨%d0, H0⟩, ⟨%d1, H1⟩⟩
  have hb : (dats m hr 0 c).before 0 t d0 = rows m c t := before_in m hr c t d0
  rw [hb]
  by_cases ht : t.val = 0
  · iapply (first c (grid0.coords t) ((cond_iff t).mpr ht) (spec0_0.stage ((cfgA m).slots t 0)) (hstage0_0 _) (spec0_1.stage ((cfgA m).slots t 1)) (hstage0_1 _)
      (V m c main_v0) (word m c) (V_table m c) (hr c) (rows m c t) (V m c main_arg2) _ fs W)
    isplitl [Hi]; · iexact Hi
    isplitl [H0]; · iexact H0
    isplitl [HW]; · iexact HW
    isplitl [H1]; · iexact H1
    isplitl [Hs]; · iexact Hs
    isplitl [Hd]; · iexact Hd
    isplitl [HO]; · iexact HO
    iintro ⟨Hi, H0, HW, H1, Hs, Hd, ⟨%W', HO⟩⟩
    isplitl [Hi HW Hd Hs]
    · isplitl [Hi]; · iexact Hi
      isplitl [HW]; · iexact HW
      isplitl [Hd]; · iexact Hd
      iexists _; isplitr; swap; · iexact Hs
      ipureintro; exact .inr rfl
    isplitl [HO]
    · iexists W'; isplitr; · ipureintro; exact fun _ _ => Or.inl trivial
      iexact HO
    isplitl [H0]; · iexact H0
    iexact H1
  · obtain rfl := hfs.resolve_left ht
    iapply (later c (grid0.coords t) (fun h => ht ((cond_iff t).mp h)) (spec0_0.stage ((cfgA m).slots t 0)) (hstage0_0 _) (spec0_1.stage ((cfgA m).slots t 1)) (hstage0_1 _)
      (rows m c t) _ (weights m hr c) W)
    isplitl [H0]; · iexact H0
    isplitl [H1]; · iexact H1
    isplitl [Hs]; · iexact Hs
    isplitl [HO]; · iexact HO
    iintro ⟨H0, H1, Hs, ⟨%W', HO⟩⟩
    isplitl [Hi HW Hd Hs]
    · isplitl [Hi]; · iexact Hi
      isplitl [HW]; · iexact HW
      isplitl [Hd]; · iexact Hd
      iexists _; isplitr; swap; · iexact Hs
      ipureintro; exact .inr rfl
    isplitl [HO]
    · iexists W'; isplitr; · ipureintro; exact fun _ _ => Or.inl trivial
      iexact HO
    isplitl [H0]; · iexact H0
    iexact H1

/-! ## The launch: @main as a host operation, the kernel, a host operation -/

/-- The kernel's own semaphore, the copy's. -/
abbrev osem : Fin 1 → SemLoc sig := fun _ => .dma 4

/-- It is scoped and no staging semaphore. -/
theorem ownSemFacts : Pipeline.OwnSemFacts spec0 osem := by decide

/-- The kernel's own cells at zero: the one counter. -/
theorem ownSems0_eq (c : Dev nD) :
    (Pipeline.ownSems0 (Ix := Unit) (Name := ℕ) (U := UU nD τ) (Lvl := ℕ) (Val := Elt F) (τ := τ) osem c : sProp 𝕄)
      = semVal ((c : Thread nD τ), .dma 4) 0 :=
  Pipeline.ownSems0_eq_of_list c osem [0] (by decide) (by decide)

/-- An array's contents after the kernel, as the library computes them. -/
abbrev finalA (c : Dev nD) (w : Fin 2) : Buf (Elt F) (((cfgA m).win w).arr.view.loc (c : Thread nD τ)) :=
  (dats m hr 0 c).arrAt w (cfgA m).N

/-- Core `c`'s buffers after the kernel: the two arrays at their final contents, the rest as they entered. -/
abbrev V₂ (c : Dev nD) : Valuation τ sig (Elt F) := Pipeline.withArrays spec0 c (V₁ m c) (finalA m hr c)

/-- No core owes another anything: no level is assigned. -/
abbrev L : GSem nD τ sig → Finset Unit := fun _ => ∅
/-- Where none is assigned, any will do. -/
abbrev lv : GSem nD τ sig → Unit → ℕ := fun _ _ => 0

/-- What rides beside the buffers: the core's `owes`. -/
abbrev R (c : Dev nD) : sProp 𝕄 := iprop(∃ W, owes (c : Thread nD τ) (0 : CellTallies nD τ sig Unit) W)

/-- The host operation that fills the table. -/
def seg0 : Pipeline.HostSeg (Name := ℕ) (U := UU nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (by intro _ h; (repeat (cases h with | head => rfl | tail _ h => ?_)); exact nomatch h) (V₀ m) R

/-- The host operation that turns the scores round. -/
def seg1 : Pipeline.HostSeg (Name := ℕ) (U := UU nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (by intro _ h; (repeat (cases h with | head => rfl | tail _ h => ?_)); exact nomatch h) (V₂ m hr) R

/-- The one table, held whole at the contents the pipeline is pinned at. -/
theorem table_eq (c : Dev nD) :
    (Pipeline.prefHeld (Ix := Unit) (Name := ℕ) (U := UU nD τ) (Lvl := ℕ) pre0 c (fun _ => fullShare) (adm m 0).1 : sProp 𝕄)
      = pt c (Memref.whole main_v0) (V m c main_v0) := by
  obtain rfl : c = 0 := Subsingleton.elim _ _
  exact bigSep_univ_eq_bigSepL [(0 : Fin 1)] (by decide) (by decide) _

/-- The buffers no window stages: the table, and the three others. -/
theorem rest_eq (c : Dev nD) :
    (Pipeline.unscopedRest (Ix := Unit) (Name := ℕ) (U := UU nD τ) (Lvl := ℕ) spec0 c (V m c) : sProp 𝕄)
      = iprop(pt c (Memref.whole main_v0) (V m c main_v0)
        ∗ (((c : Thread nD τ).loc main_arg0) ↦{fullShare} V m c main_arg0) ∗ (((c : Thread nD τ).loc main_arg2) ↦{fullShare} V m c main_arg2)
        ∗ (((c : Thread nD τ).loc main_v2) ↦{fullShare} V m c main_v2)) := by
  rw [Pipeline.unscopedRest_split preFacts0, unscopedRestP0_eq]
  congr 1
  exact bigSep_univ_eq_bigSepL [(0 : Fin 1)] (by decide) (by decide) _

set_option backward.isDefEq.respectTransparency.types false in
/-- THE KERNEL'S REGION, entered from what the first host operation left. -/
def reg0 : Pipeline.RegionSeg (pcfgs (F := F)) (adm m) (dats m hr) () defs₀ 𝒱₀ L lv 0 where
  win := winFacts0.to₀
  block_pos := block_pos0
  stage_whole := stage_whole0
  K := Fin 1
  osem := osem
  ho := ownSemFacts
  hbody c := (body_obligation m hr c).loose
  hwaits := Pipeline.hwaits_of_owed_zero _ _ _ _ L lv 0 fun _ _ => rfl
  pre c := iprop(StableHlo.held (c : Thread nD τ) (Pipeline.ucRefs τ sig) (V₁ m c) ∗ R c)
  post c := iprop(StableHlo.held (c : Thread nD τ) (Pipeline.ucRefs τ sig) (V₂ m hr c) ∗ R c)
  X c := iprop(pt c (Memref.whole main_arg2) (V m c main_arg2) ∗ semVal ((c : Thread nD τ), .dma 4) 0)
  Y c := iprop(pt c (Memref.whole main_v0) (V m c main_v0) ∗ pt c (Memref.whole main_arg2) (V m c main_arg2))
  Z c := iprop((((c : Thread nD τ).loc main_arg0) ↦{fullShare} V m c main_arg0) ∗ (((c : Thread nD τ).loc main_v2) ↦{fullShare} V m c main_v2))
  hentry c := by
    rw [show StableHlo.held (c : Thread nD τ) (Pipeline.ucRefs τ sig) (V₁ m c) = unscopedBufs c (V m c) from (Pipeline.unscopedBufs_held c _).symm,
      ownSems0_eq, table_eq]
    have hsplit := (Pipeline.arrays_of_unscopedBufs (pcfgs (F := F)) (adm m) (dats m hr) winFacts0 arr_whole0 c
      ((dats m hr 0 c).share_full fun _ => rfl) (V m c) (A_eq m hr c)).trans (sep_mono .rfl (Entails.of_eq (rest_eq m c)))
    iintro ⟨⟨Hub, HO⟩, Hos, -⟩
    ihave H := hsplit $$ Hub
    icases H with ⟨Ha, Hi, H0, H2, Hv⟩
    imodintro
    isplitl [Ha]; · iexact Ha
    isplitl [Hi]; · iexact Hi
    isplitl [HO]
    · unfold Pipeline.Dat.owesAt Pipeline.owesWithin
      icases HO with ⟨%W, HO⟩; iexists W; isplitr; · ipureintro; exact fun _ _ => Or.inl trivial
      iexact HO
    isplitl [H2 Hos]
    · isplitl [H2]; · iexact H2
      iexact Hos
    isplitl [H0]; · iexact H0
    iexact Hv
  hin c := by
    rw [show (dats m hr 0 c).Φ 0 = Φc m hr c 0 from rfl, table_eq]; unfold Φc
    rw [show Pipeline.scopedRest spec0 c = _ from scopedRest0_eq c]
    iintro ⟨⟨H2, Hos⟩, Hi, ⟨%fs, Hs⟩⟩
    isplitl [Hi]; · iexact Hi
    isplitl [H2]; · iexact H2
    isplitl [Hos]; · iexact Hos
    iexists fs; isplitr; · ipureintro; exact .inl rfl
    iexact Hs
  hout c := by
    rw [ownSems0_eq, show (dats m hr 0 c).Φ (Fin.last (cfgA m).N) = Φc m hr c (cfgA m).N from rfl]; unfold Φc
    rw [show Pipeline.scopedRest spec0 c = _ from scopedRest0_eq c]
    iintro ⟨Hi, H2, Hos, ⟨%fs, -, Hs⟩⟩
    isplitl [Hi H2]
    · isplitl [Hi] <;> iassumption
    isplitl [Hos]; · iexact Hos
    iexists fs; iexact Hs
  hexit c := by
    rw [show StableHlo.held (c : Thread nD τ) (Pipeline.ucRefs τ sig) (V₂ m hr c) = unscopedBufs c (fun b => V₂ m hr c b) from (Pipeline.unscopedBufs_held c _).symm]
    have hjoin := (sep_mono .rfl (Entails.of_eq (rest_eq m c).symm)).trans
      (Pipeline.unscopedBufs_of_arrays (pcfgs (F := F)) (adm m) winFacts0 arr_whole0 c (dats m hr)
      ((dats m hr 0 c).share_full fun _ => rfl) (V m c) (fun b => V₂ m hr c b) (finalA m hr c)
      (fun w => (Pipeline.withArrays_arr spec0 winFacts0.arr_inj c (V₁ m c) (finalA m hr c) w).symm)
      (fun b hb => Pipeline.withArrays_of_ne spec0 c (V₁ m c) (finalA m hr c) b fun w e => hb (Finset.mem_image.mpr ⟨w, Finset.mem_univ _, e⟩)))
    iintro ⟨Ha, HO, ⟨Hi, H2⟩, H0, Hv⟩
    imodintro
    isplitr [HO]
    · iapply hjoin
      isplitl [Ha]; · iexact Ha
      isplitl [Hi]; · iexact Hi
      isplitl [H0]; · iexact H0
      isplitl [H2] <;> iassumption
    · unfold Pipeline.Dat.owesAt Pipeline.owesWithin
      icases HO with ⟨%W, -, HO⟩; iexists W; iexact HO

/-- Every buffer a core keeps, at the contents the three steps leave. -/
abbrev V₃ (c : Dev nD) : Valuation τ sig (Elt F) := StableHlo.after hostOps1 (V₂ m hr c)

/-- The launch element: the library's cells and tokens, and nothing else. -/
def u₀ : UU nD τ :=
  (initOf (Pipeline.cells (Pipeline.pin (pcfgs (F := F)) (adm m)) (cellOf_inj (adm m)))
    (Pipeline.launchToks (Pipeline.pin (pcfgs (F := F)) (adm m)) (cellOf_inj (adm m))), 1)

/-- The three steps of @main. -/
abbrev segs : List (Pipeline.Seg (pcfgs (F := F)) (adm m) (dats m hr) () defs₀ 𝒱₀ L lv) :=
  [.host (seg0 m), .region (reg0 m hr), .host (seg1 m hr)]

set_option backward.isDefEq.respectTransparency.types false in
/-- THE RUN: from any memory whose index is in range, every execution ends, every buffer a core keeps holds what the
    three steps leave in it, and every counter is back at zero. -/
theorem run_main : θ_run (defs (F := F)) (onTc (τ := τ) (main (F := F))) ⟨m, fun _ => 0, ρ⟩
    (fun r => (∀ (c : Dev nD), ∀ b ∈ Pipeline.ucRefs τ sig, r.2.mem (c, b) = V₃ m hr c b) ∧ r.2.sem = fun _ => 0) :=
  Pipeline.θ_run_regions_kit_sems (pcfgs (F := F)) (adm m) (dats m hr) () (cellOf_inj (adm m)) EP defs₀ 𝒱₀ L lv m ρ main (segs m hr)
    (fun c Q => by rw [main_segs (adm m) (dats m hr) () 𝒱₀ L lv (seg0 m) (seg1 m hr) (reg0 m hr) rfl rfl c])
    (by simp only [Pipeline.Seg.pipes_host, Pipeline.Seg.pipes_region, Pipeline.Seg.pipes_nil]; decide)
    (O₀ := 0) (hL := fun _ _ => rfl) (G := fun _ => iprop(emp)) (u₀ := u₀ m)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c))
    (Tₙ := fun c => StableHlo.held (c : Thread nD τ) (Pipeline.ucRefs τ sig) (V₃ m hr c))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m c)
        from Pipeline.unscopedBufs_held c (V₀ m c)]
      iintro ⟨⟨Hh, -, HO, -, -, -⟩, -⟩
      imodintro
      isplitl [Hh]; · iexact Hh
      iexists ∅
      iexact HO)
    (QY := fun c s => ∀ b ∈ Pipeline.ucRefs τ sig, s.mem (c, b) = V₃ m hr c b)
    (hfin := fun c s' => by
      iintro H
      imodintro
      iapply (pointsTo_read_all (Pipeline.ucRefs τ sig) (fun b => ((c : Dev nD), b)) (fun b => V₃ m hr c b) s')
      iexact H)
    (hQ := fun _ h hz => ⟨h, funext fun g => hz g (.inr (by revert g; decide))⟩)

end Cert.Proof

end
-- ==== Proof.Frame.lean ====
module

public import proofs.«01_k».proof.Proof.Run
public import proofs.«01_k».proof.Proof.Gen.Pre_layer_in_range

/-! # What the run leaves in the arrays the caller passed, and in the result

The precondition bounds the layer index, so the run applies; the three arguments end as they began, and the result is
the array of scores turned round. -/

@[expose] public section

noncomputable section

namespace Cert.Proof

open Cert.KernelIdeal Cert.KernelIdeal.Gen

open Idealize.ShloMosaic Idealize.ShloMosaic.TcCoe Idealize.SL.Sem

/-- The precondition on the one word: read signed, it is at least zero and below sixteen. -/
theorem word_bound {F : FTy → Type} [FloatOps F] {i : IVec Cert.Pre_layer_in_range.S_ 32} {x w}
    (h : Cert.Pre_layer_in_range.fn (F := F) i x w = fun _ => 1#1) (k : Cert.Pre_layer_in_range.S_.Idx) :
    0 ≤ (i k).toInt ∧ (i k).toNat < 16 := by
  have both : ∀ p q : Bool, IntOp.andi (BitVec.ofBool p) (BitVec.ofBool q) = 1#1 → p = true ∧ q = true := by decide
  obtain ⟨h0, h1⟩ := both _ _ (congrFun h k)
  have h0 : (0#32).sle (i k) = true := h0
  have h1 : (i k).slt 16#32 = true := h1
  rw [BitVec.sle_iff_toInt_le] at h0
  rw [BitVec.slt_iff_toInt_lt] at h1
  rw [show (0#32 : BitVec 32).toInt = 0 from rfl] at h0
  rw [show (16#32 : BitVec 32).toInt = 16 from rfl] at h1
  refine ⟨h0, ?_⟩
  rw [BitVec.toInt_eq_toNat_of_msb (BitVec.msb_eq_false_iff_two_mul_lt.mpr ?_)] at h1
  · omega
  · simp only [BitVec.toInt] at h0 h1; split at h0 <;> omega

variable {F : FTy → Type} [FloatOps F]
variable (m : (ℓ : Loc nD τ sig) → Buf (Elt F) ℓ) (ρ : Dev nD → PrngReg)

/-- What the precondition says of a memory: the index each core is passed is one of the sixteen layers'. -/
abbrev PreAt : Prop := ∀ c : Dev nD, Cert.Pre_layer_in_range.fn (F := F) (m ((c : Thread nD τ).loc main_arg0))
  (m ((c : Thread nD τ).loc main_arg1)) (m ((c : Thread nD τ).loc main_arg2)) = fun _ => 1#1

/-- The index is not negative, and is below sixteen. -/
theorem word_lt {m : (ℓ : Loc nD τ sig) → Buf (Elt F) ℓ} (h : PreAt m) (c : Dev nD) : 0 ≤ (word m c).toInt ∧ (word m c).toNat < 16 :=
  word_bound (h c) _

/-- So its layer's slice lies inside the weights. -/
theorem inRange {m : (ℓ : Loc nD τ sig) → Buf (Elt F) ℓ} (h : PreAt m) : InRange m := fun c a => by
  have := (word_lt h c).2
  match a with
  | ⟨0, _⟩ => show (word m c).toNat + 1 ≤ 16; omega
  | ⟨1, _⟩ => show 0 + 64 ≤ 64; omega
  | ⟨2, _⟩ => show 0 + 4096 ≤ 4096; omega

variable (hr : InRange m)

/-- Turning the scores round writes the result and nothing else. -/
theorem V₃_of_ne (c : Dev nD) (b : Ref sig .tc) (hb : b ≠ main_v2) : V₃ m hr c b = V₂ m hr c b :=
  StableHlo.after_of_forall_not_mem (b := Proc.devRef .tc b) hostOps1 (V₂ m hr c) (by
    intro op hop
    simp only [List.mem_cons, List.mem_nil_iff, or_false] at hop
    subst hop
    rw [StableHlo.unary_writes, Finset.mem_singleton]
    exact StableHlo.devRef_ne_of_ne hb)

/-- A buffer that is neither result, nor table, nor array of the kernel's ends as it began. -/
theorem V₃_kept (c : Dev nD) (b : Ref sig .tc) (h2 : b ≠ main_v2) (h0 : b ≠ main_v0) (hw : ∀ w, Pipeline.arrRef spec0 w ≠ b) :
    V₃ m hr c b = m ((c : Thread nD τ).loc b) :=
  (V₃_of_ne m hr c b h2).trans ((Pipeline.withArrays_of_ne spec0 c (V₁ m c) (finalA m hr c) b hw).trans (V_of_ne m c b h0))

/-- The hidden states too: the kernel only reads them. -/
theorem V₃_hidden (c : Dev nD) : V₃ m hr c main_arg1 = m ((c : Thread nD τ).loc main_arg1) :=
  (V₃_of_ne m hr c main_arg1 (by decide)).trans
    ((Pipeline.withArrays_arr spec0 winFacts0.arr_inj c (V₁ m c) (finalA m hr c) 0).trans
      (((dats m hr 0 c).arrAt_in 0 rfl _).trans ((A_eq m hr c 0).trans (V_of_ne m c main_arg1 (by decide)))))

/-- The result is the scores, turned round. -/
theorem V₃_result (c : Dev nD) : V₃ m hr c main_v2
    = transpose S32768x64 [1, 0] (finalA m hr c 1 : Vec F S64x32768 .f32) transposes_S64x32768_S32768x64_1_0 := by
  have e : V₂ m hr c main_v1 = finalA m hr c 1 := Pipeline.withArrays_arr spec0 winFacts0.arr_inj c (V₁ m c) (finalA m hr c) 1
  rw [← e]
  show StableHlo.after hostOps1 (V₂ m hr c) (Proc.devRef .tc main_v2) = _
  after_results

/-- THE RUN, READ: the result at the scores turned round, the arguments as they began, every counter at zero. -/
theorem run : θ_run (defs (F := F)) (onTc (τ := τ) (main (F := F))) ⟨m, fun _ => 0, ρ⟩ (fun r => (∀ c : Dev nD,
      r.2.mem ((c : Thread nD τ).loc main_v2)
        = transpose S32768x64 [1, 0] (finalA m hr c 1 : Vec F S64x32768 .f32) transposes_S64x32768_S32768x64_1_0
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2))
      ∧ r.2.sem = fun _ => 0) :=
  (θ_run defs _ _).mono (fun _ h => ⟨fun c =>
    ⟨(h.1 c (Proc.devRef .tc main_v2) (by decide)).trans (V₃_result m hr c),
      (h.1 c (Proc.devRef .tc main_arg0) (by decide)).trans (V₃_kept m hr c main_arg0 (by decide) (by decide) (by decide)),
      (h.1 c (Proc.devRef .tc main_arg1) (by decide)).trans (V₃_hidden m hr c),
      (h.1 c (Proc.devRef .tc main_arg2) (by decide)).trans (V₃_kept m hr c main_arg2 (by decide) (by decide) (by decide))⟩, h.2⟩)
    (run_main m ρ hr)

/-- THE FRAME: under the precondition the program runs, leaves its arguments as they were and every counter at zero. -/
theorem frame (h : PreAt m) : θ_run (defs (F := F)) (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2))
      ∧ r.2.sem = fun _ => 0) :=
  (θ_run defs _ _).mono (fun _ h => ⟨fun c => (h.1 c).2, h.2⟩) (run m ρ (inRange h))

end Cert.Proof

end
-- ==== Proof.KernelFrame.lean ====
module

public import proofs.«01_k».proof.Proof.Frame
public import proofs.«01_k».proof.Proof.Gen.Kernel
public import proofs.«01_k».proof.Kernel

/-! # The frame of the kernel as printed

The kernel as printed and the kernel read at the ideal instance are one text, so the run proved at any
floating-point instance is the printed kernel's too. -/

@[expose] public section

noncomputable section

namespace Cert.Proof

open Idealize.ShloMosaic Idealize.ShloMosaic.TcCoe Idealize.SL.Sem

variable {F : FTy → Type} [FloatOps F]

/-- The two kernel bodies are one text. -/
theorem same_body (i a1 h1 a2 h2 a3 h3 a4 h4 a5 h5 a6) :
    Cert.Kernel.cc0__router_kernel (F := F) i a1 h1 a2 h2 a3 h3 a4 h4 a5 h5 a6
      = Cert.KernelIdeal.cc0__router_kernel (F := F) i a1 h1 a2 h2 a3 h3 a4 h4 a5 h5 a6 := by
  unfold Cert.Kernel.cc0__router_kernel Cert.KernelIdeal.cc0__router_kernel
  rfl

/-- So the two body tables are one, -/
theorem same_bodies : Cert.Kernel.defs₀ (F := F) = Cert.KernelIdeal.defs₀ (F := F) := by
  unfold Cert.Kernel.defs₀ Cert.KernelIdeal.defs₀
  congr 1
  funext l x
  match l, x with
  | ⟨0, _⟩, (t, s) => exact same_body ..

/-- and the two programs' tables with their pipelines. -/
theorem same_defs : Cert.Kernel.defs (F := F) = Cert.KernelIdeal.defs (F := F) :=
  congrArg (Pipeline.defs (Cert.KernelIdeal.pcfgs (F := F))) same_bodies

open Cert.Kernel in
/-- The printed kernel, at any floating-point instance: it runs, its arguments and its counters end as they began. -/
theorem frame_printed (m : (ℓ : Loc nD τ sig) → Buf (Elt F) ℓ) (ρ : Dev nD → PrngReg)
    (h : ∀ c : Dev nD, Cert.Pre_layer_in_range.fn (F := F) (m ((c : Thread nD τ).loc main_arg0))
      (m ((c : Thread nD τ).loc main_arg1)) (m ((c : Thread nD τ).loc main_arg2)) = fun _ => 1#1) :
    θ_run (defs (F := F)) (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2))
      ∧ r.2.sem = fun _ => 0) := by
  rw [show defs (F := F) = Cert.KernelIdeal.defs (F := F) from same_defs]
  exact frame (F := F) m ρ h

end Cert.Proof

end
-- ==== Proof.Scores.lean ====
module

public import proofs.«01_k».proof.Proof.Frame
public import Idealize.ShloMosaic.Lib.Pipeline.Value
public import Idealize.ShloMosaic.Lib.Pipeline.ValueKit.Geometry
public import Idealize.ShloMosaic.Lib.MatmulPlain
public import Idealize.ShloMosaic.Lib.ValueIdx
public import Idealize.ShloMosaic.Lib.ValueLayout

/-! # What the kernel computes, over the extended reals

Element `(e, r)` of the kernel's array is the score of expert `e` on row `r`: the sum over the 4096 features of the
hidden state's entry times the entry of the chosen layer's weights. One grid point computes the scores of 512 rows; the
sixty-four points' blocks tile the array. -/

@[expose] public section

noncomputable section

namespace Cert.Proof

open Cert.KernelIdeal Cert.KernelIdeal.Gen

open Idealize.ShloMosaic Idealize.ShloMosaic.TcCoe Idealize.ShloMosaic.ValueIdx
open Idealize.ShloMosaic.Pipeline (Window)

/-- The score of expert `e` on row `r`, with the weights of layer `l`. -/
def score (hid : FVec Ideal S32768x4096 .f32) (wts : FVec Ideal S16x64x4096 .f32) (l : Fin 16) (r : Fin 32768) (e : Fin 64) : Ideal .f32 :=
  ∑ k : Fin 4096, hid (ix2 r k) * wts (ix3 l e k)

/-! ## One grid point -/

/-- The kernel's product contracts the features of both operands. -/
theorem product_dims : dot_S512x4096_S64x4096_S512x64_1_1_0_0_n_n = DotDims.transposedRhs 512 4096 64 := rfl

/-- What one point stores, at expert `e` and its row `i`: the row's product with the expert's weights. -/
theorem block_score (x : Vec Ideal S512x4096 .f32) (w : Vec Ideal S64x4096 .f32) (e : Fin 64) (i : Fin 512) :
    k0_pay1 x w (ix2 e i) = ∑ k : Fin 4096, x (ix2 i k) * w (ix2 e k) := by
  unfold k0_pay1
  simp only [matmul]
  rw [transpose_ix2_apply, product_dims, Ideal.matmul_transposedRhs_apply, constant_apply, Ideal.ofBits_zero_f32]
  exact zero_add _

/-- Entry `(e, k)` of the layer the word `w` names is entry `(w, e, k)` of the weights. -/
theorem layer_apply (w : BitVec 32) (hw : ∀ a, k0_off1 w a + S1x64x4096.size a ≤ S16x64x4096.size a) (hl : w.toNat < 16)
    (fW : main_arg2.ty.Contents (Elt Ideal)) (e : Fin 64) (k : Fin 4096) :
    layer w hw fW (ix2 e k) = fW (ix3 ⟨w.toNat, hl⟩ e k) := by
  show fW ((Rect.unit (s := S16x64x4096) (k0_off1 w) S1x64x4096.size hw).emb (Shape.reshapeEquiv _ (ix2 e k))) = _
  rw [reshapeEquiv_ix2_1ab]
  congr 1
  funext a
  apply Fin.ext
  rw [Rect.emb_apply]
  match a with
  | ⟨0, _⟩ => show w.toNat + 1 * 0 = w.toNat; omega
  | ⟨1, _⟩ => show 0 + 1 * e.val = e.val; omega
  | ⟨2, _⟩ => show 0 + 1 * k.val = k.val; omega

variable (m : (ℓ : Loc nD τ sig) → Buf (Elt Ideal) ℓ) (hr : InRange m)

/-- A point's number survives the word it is passed in. -/
theorem point_word (t : Fin grid0.N) : (BitVec.ofNat 32 (grid0.coords t 0).val).toNat = t.val := by
  have := t.isLt; have hN := N_0
  rw [coord, BitVec.toNat_ofNat]
  omega

/-- Point `t` is given the rows from `512 t` on, -/
theorem hidden_index (t : Fin grid0.N) : ((cfgA m).win 0).index t (0 : Fin 2) = t.val ∧ ((cfgA m).win 0).index t (1 : Fin 2) = 0 :=
  ⟨point_word t, rfl⟩

/-- and writes the columns from `512 t` on. -/
theorem score_index (t : Fin grid0.N) : ((cfgA m).win 1).index t (0 : Fin 2) = 0 ∧ ((cfgA m).win 1).index t (1 : Fin 2) = t.val :=
  ⟨rfl, point_word t⟩

/-- Row `i` of point `t`'s rows is row `512 t + i` of the hidden states. -/
theorem rows_apply (c : Dev nD) (t : Fin grid0.N) (i : Fin 512) (k : Fin 4096) (hi : t.val * 512 + i.val < 32768) :
    rows m c t (ix2 i k) = m ((c : Thread nD τ).loc main_arg1) (ix2 ⟨t.val * 512 + i.val, hi⟩ k) := by
  unfold rows
  rw [V_of_ne m c main_arg1 (by decide)]
  show m ((c : Thread nD τ).loc main_arg1) ((((cfgA m).win 0).rect t).emb (ix2 i k)) = _
  congr 1
  funext a
  apply Fin.ext
  obtain ⟨h0, h1⟩ := hidden_index m t
  match a with
  | ⟨0, _⟩ =>
    refine (((cfgA m).win 0).rect_emb_val t (ix2 i k) (0 : Fin 2)).trans ?_
    show ((cfgA m).win 0).index t (0 : Fin 2) * 512 + i.val = t.val * 512 + i.val
    rw [h0]
  | ⟨1, _⟩ =>
    refine (((cfgA m).win 0).rect_emb_val t (ix2 i k) (1 : Fin 2)).trans ?_
    show ((cfgA m).win 0).index t (1 : Fin 2) * 4096 + k.val = k.val
    rw [h1]; omega

/-! ## The whole array -/

/-- The layer the caller's index names. -/
abbrev lay (c : Dev nD) (hl : (word m c).toNat < 16) : Fin 16 := ⟨(word m c).toNat, hl⟩

/-- The array of scores: experts down, rows across. -/
def scores (c : Dev nD) (hl : (word m c).toNat < 16) : Vec Ideal S64x32768 .f32 := fun j =>
  score (m ((c : Thread nD τ).loc main_arg1)) (m ((c : Thread nD τ).loc main_arg2)) (lay m c hl) (j 1) (j 0)

/-- Every point writes its block back. -/
theorem flush1 (t : Fin grid0.N) : ((cfgA m).win 1).flush t = true := by
  unfold Window.flush
  by_cases h : t.val + 1 = grid0.N
  · simp [h]; rfl
  · have hlt : t.val + 1 < grid0.N := by have := t.isLt; omega
    refine Bool.and_eq_true_iff.mpr ⟨rfl, Bool.or_eq_true_iff.mpr (.inr (decide_eq_true ⟨hlt, fun e => ?_⟩))⟩
    have e1 := congrFun e (1 : Fin 2)
    rw [(score_index m _).2, (score_index m _).2] at e1
    simp only at e1
    omega

/-- The blocks tile the array: column `j` lies in point `j / 512`'s. -/
theorem cover1 (i : S64x32768.Idx) : ∃ t : Fin grid0.N, ((cfgA m).win 1).flush t = true ∧ i ∈ (((cfgA m).win 1).blk t).view.set := by
  have h0 : (i 0).val < 64 := (i 0).isLt
  have h1 : (i 1).val < 32768 := (i 1).isLt
  have hN := N_0
  refine ⟨⟨(i 1).val / 512, by omega⟩, flush1 m _, (((cfgA m).win 1).emb_mem_blk_iff _ i).mpr fun a => ?_⟩
  match a with
  | ⟨0, _⟩ =>
    show ((cfgA m).win 1).index _ (0 : Fin 2) * 64 ≤ (i 0).val ∧ (i 0).val < ((cfgA m).win 1).index _ (0 : Fin 2) * 64 + 64
    rw [(score_index m _).1]; omega
  | ⟨1, _⟩ =>
    show ((cfgA m).win 1).index _ (1 : Fin 2) * 512 ≤ (i 1).val ∧ (i 1).val < ((cfgA m).win 1).index _ (1 : Fin 2) * 512 + 512
    rw [(score_index m _).2]; simp only; omega

/-- Each point's block of scores is the array's, at the rows it was given. -/
theorem point_score (c : Dev nD) (hl : (word m c).toNat < 16) (t : Fin grid0.N) (e : Fin 64) (i : Fin 512) (hi : t.val * 512 + i.val < 32768) :
    k0_pay1 (rows m c t) (weights m hr c) (ix2 e i) = scores m c hl (ix2 e ⟨t.val * 512 + i.val, hi⟩) := by
  rw [block_score]
  unfold scores score
  refine Finset.sum_congr rfl fun k _ => ?_
  have hw : weights m hr c (ix2 e k) = m ((c : Thread nD τ).loc main_arg2) (ix3 (lay m c hl) e k) :=
    (layer_apply (word m c) (hr c) hl _ e k).trans (by rw [V_of_ne m c main_arg2 (by decide)])
  rw [rows_apply m c t i k hi, hw]

/-- THE KERNEL'S ARRAY: after the sixty-four points it holds the scores. -/
theorem final_scores (c : Dev nD) (hl : (word m c).toNat < 16) : finalA m hr c 1 = scores m c hl := by
  refine (dats m hr 0 c).arrAt_eq_of_emb 1 (scores m c hl) (fun t _ y => ?_) (cover1 m)
  have ht : t.val < 64 := lt_of_lt_of_eq t.isLt N_0
  obtain ⟨e, i, rfl⟩ : ∃ (e : Fin 64) (i : Fin 512), y = ix2 e i := ⟨y (0 : Fin 2), y (1 : Fin 2), eq_ix2 y⟩
  have hi : t.val * 512 + i.val < 32768 := by have := i.isLt; omega
  refine (point_score m hr c hl t e i hi).trans (congrArg (scores m c hl) ?_)
  funext a
  apply Fin.ext
  obtain ⟨h0, h1⟩ := score_index m t
  match a with
  | ⟨0, _⟩ =>
    refine Eq.trans ?_ (((cfgA m).win 1).rect_emb_val t (ix2 e i) (0 : Fin 2)).symm
    show e.val = ((cfgA m).win 1).index t (0 : Fin 2) * 64 + e.val
    rw [h0]; omega
  | ⟨1, _⟩ =>
    refine Eq.trans ?_ (((cfgA m).win 1).rect_emb_val t (ix2 e i) (1 : Fin 2)).symm
    show t.val * 512 + i.val = ((cfgA m).win 1).index t (1 : Fin 2) * 512 + i.val
    rw [h1]

/-- So the kernel's result, at row `r` and expert `e`, is their score. -/
theorem result_apply (c : Dev nD) (hl : (word m c).toNat < 16) (r : Fin 32768) (e : Fin 64) :
    transpose S32768x64 [1, 0] (finalA m hr c 1 : Vec Ideal S64x32768 .f32) transposes_S64x32768_S32768x64_1_0 (ix2 r e)
      = score (m ((c : Thread nD τ).loc main_arg1)) (m ((c : Thread nD τ).loc main_arg2)) (lay m c hl) r e := by
  rw [final_scores m hr c hl, transpose_ix2_apply]
  rfl

end Cert.Proof

end
-- ==== Proof.Reference.lean ====
module

public import proofs.«01_k».proof.Proof.Gen.ReferenceIdeal
public import proofs.«01_k».proof.Proof.Scores
public import Idealize.ShloMosaic.Lib.Claim
public import Idealize.ShloMosaic.Lib.StableHlo.RunClose
public import Idealize.ShloMosaic.Lib.DynamicIndex
public import Idealize.ShloMosaic.Lib.StackMember

/-! # What the reference computes

The reference looks the layer up with a clamped, wrapped index, turns the layer round and multiplies. At an index that
names a layer neither the wrap nor the clamp does anything, and element `(r, e)` of the product is the score of expert
`e` on row `r`. -/

@[expose] public section

noncomputable section

namespace Cert.Proof.Ref

open Cert.ReferenceIdeal Cert.ReferenceIdeal.Gen

open Idealize.ShloMosaic Idealize.ShloMosaic.TcCoe Idealize.ShloMosaic.ValueIdx Idealize.SL.Sem

/-- The three starts of the lookup: the caller's index counted from the end if negative, and zero twice. -/
abbrev starts (i : IVec S_ 32) : Fin 3 → IVec S_ 32 :=
  ![select (cmpi .slt i (constantI S_ 32 0#32)) (addi i (constantI S_ 32 16#32)) i,
    select (cmpi .slt (constantI S_ 32 0#32) (constantI S_ 32 0#32)) (addi (constantI S_ 32 0#32) (constantI S_ 32 64#32)) (constantI S_ 32 0#32),
    select (cmpi .slt (constantI S_ 32 0#32) (constantI S_ 32 0#32)) (addi (constantI S_ 32 0#32) (constantI S_ 32 4096#32)) (constantI S_ 32 0#32)]

/-- The reference's result, of its three arguments. -/
abbrev out (i : IVec S_ 32) (hid : FVec Ideal S32768x4096 .f32) (wts : FVec Ideal S16x64x4096 .f32) : FVec Ideal S32768x64 .f32 :=
  Host.dotGeneral dot_S32768x4096_S4096x64_S32768x64_1_0_0_1_n_n none hid
    (transpose S4096x64 [1, 0] (shapeCast S64x4096
      (Host.dynamicSlice S1x64x4096 wts (fun k => (starts i k (Shape.Idx.first h_S_)).toInt) sliceFits_S16x64x4096_S1x64x4096)
      shapeCasts_S1x64x4096_S64x4096) transposes_S64x4096_S4096x64_1_0)

/-- The reference's product is the plain one of a 32768 by 4096 and a 4096 by 64 matrix. -/
theorem product_dims : dot_S32768x4096_S4096x64_S32768x64_1_0_0_1_n_n = DotDims.plain 32768 4096 64 := rfl

/-- A word that is not negative, read signed, is the number it is read unsigned. -/
theorem signed_eq {w : BitVec 32} (h : 0 ≤ w.toInt) : w.toInt = (w.toNat : Int) := by
  rw [BitVec.toInt_eq_toNat_cond] at h ⊢
  split at h <;> split <;> omega

/-- At an index that names a layer the starts are the layer's. -/
theorem starts_val (i : IVec S_ 32) (j : S_.Idx) (h : 0 ≤ (i j).toInt) (a : Fin 3) :
    (starts i a j).toInt = ((![(i j).toNat, 0, 0] : Fin 3 → Nat) a : Int) := by
  match a with
  | ⟨0, _⟩ => exact (congrArg BitVec.toInt (select_slt_zero_of_nonneg i _ i j h)).trans (signed_eq h)
  | ⟨1, _⟩ => exact toInt_wrap_ofNat (s := S_) 0 (by omega) (d := constantI S_ 32 64#32) (i := j)
  | ⟨2, _⟩ => exact toInt_wrap_ofNat (s := S_) 0 (by omega) (d := constantI S_ 32 4096#32) (i := j)

/-- The layer the reference looks up, at expert `e` and feature `k`. -/
theorem lookup_apply (i : IVec S_ 32) (wts : FVec Ideal S16x64x4096 .f32) (h : 0 ≤ (i (Shape.Idx.first h_S_)).toInt)
    (hl : (i (Shape.Idx.first h_S_)).toNat < 16) (e : Fin 64) (k : Fin 4096) :
    Host.dynamicSlice S1x64x4096 wts (fun a => (starts i a (Shape.Idx.first h_S_)).toInt) sliceFits_S16x64x4096_S1x64x4096
      (ix3 (0 : Fin 1) e k) = wts (ix3 ⟨(i (Shape.Idx.first h_S_)).toNat, hl⟩ e k) := by
  have hoff : S16x64x4096.Slices ![(i (Shape.Idx.first h_S_)).toNat, 0, 0] S1x64x4096 := ⟨rfl, fun a => by
    match a with
    | ⟨0, _⟩ => show (i (Shape.Idx.first h_S_)).toNat + 1 ≤ 16; omega
    | ⟨1, _⟩ => show 0 + 64 ≤ 64; omega
    | ⟨2, _⟩ => show 0 + 4096 ≤ 4096; omega⟩
  rw [Host.dynamicSlice_eq_extractStridedSlice S1x64x4096 wts _ _ _ hoff (starts_val i _ h)]
  refine extractStridedSlice_apply _ wts hoff _ _ fun a => ?_
  match a with
  | ⟨0, _⟩ => rfl
  | ⟨1, _⟩ => exact (Nat.zero_add _).symm
  | ⟨2, _⟩ => exact (Nat.zero_add _).symm

/-- THE REFERENCE'S RESULT, at row `r` and expert `e`, is their score. -/
theorem out_apply (i : IVec S_ 32) (hid : FVec Ideal S32768x4096 .f32) (wts : FVec Ideal S16x64x4096 .f32)
    (h : 0 ≤ (i (Shape.Idx.first h_S_)).toInt) (hl : (i (Shape.Idx.first h_S_)).toNat < 16) (r : Fin 32768) (e : Fin 64) :
    out i hid wts (ix2 r e) = score hid wts ⟨(i (Shape.Idx.first h_S_)).toNat, hl⟩ r e := by
  unfold out score
  rw [product_dims, StackMember.dotGeneral_plain_apply]
  refine Finset.sum_congr rfl fun k _ => ?_
  rw [transpose_ix2_apply, shapeCast_1ab_ab_apply, lookup_apply i wts h hl]

variable (m : (ℓ : Loc nD τ sig) → Buf (Elt Ideal) ℓ) (ρ : Dev nD → PrngReg)

/-- The reference runs to its result, and leaves its arguments as they were. -/
theorem run : θ_run (defs (F := Ideal)) (onTc (τ := τ) (main (F := Ideal))) ⟨m, fun _ => 0, ρ⟩ (fun r => ∀ c : Dev nD,
      r.2.mem ((c : Thread nD τ).loc main_v12)
        = out (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) := by
  have h := StableHlo.run_hlo (defs (F := Ideal)) (main (F := Ideal)) (by hlo_seq) (by decide) (by decide) (by simp)
    (by intro _ h; (repeat (cases h with | head => rfl | tail _ h => ?_)); exact nomatch h) m ρ
  refine (θ_run defs _ _).mono (fun r h c => ⟨(h c main_v12).trans ?_, (h c main_arg0).trans ?_, (h c main_arg1).trans ?_,
    (h c main_arg2).trans ?_⟩) h
  · after_results_simp_entrywise
    rfl
  · after_results_simp
  · after_results_simp
  · after_results_simp

/-- The reference has no semaphore to leave off zero. -/
theorem frame : θ_run (defs (F := Ideal)) (onTc (τ := τ) (main (F := Ideal))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2))
      ∧ r.2.sem = fun _ => 0) :=
  (θ_run defs _ _).mono (fun r h => ⟨fun c => (h c).2, sem_eq_zero_of_no_sems (by decide) r.2⟩) (run m ρ)

end Cert.Proof.Ref

end
-- ==== Proof.lean ====
/- The certificate: the frames of the printed kernel, of its ideal reading and of the reference, and the equation between
   the last two. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_layer_in_range
public import proofs.«01_k».proof.Proof.Frame
public import proofs.«01_k».proof.Proof.KernelFrame
public import proofs.«01_k».proof.Proof.Scores
public import proofs.«01_k».proof.Proof.Reference

@[expose] public section

noncomputable section

namespace Cert.Proof

open Idealize.ShloMosaic Idealize.ShloMosaic.TcCoe Idealize.ShloMosaic.ValueIdx Idealize.SL.Sem
open Cert.KernelIdeal Cert.KernelIdeal.Gen

/-- The kernel's result is the reference's, of the same arguments: row by row and expert by expert both are the score. -/
theorem results_equal (m : (ℓ : Loc nD τ sig) → Buf (Elt Ideal) ℓ) (h : PreAt m) (c : Dev nD) :
    Ref.out (m ((c : Thread nD τ).loc main_arg0)) (m ((c : Thread nD τ).loc main_arg1)) (m ((c : Thread nD τ).loc main_arg2))
      = transpose S32768x64 [1, 0] (finalA m (inRange h) c 1 : Vec Ideal S64x32768 .f32) transposes_S64x32768_S32768x64_1_0 := by
  have hw : (m ((c : Thread nD τ).loc main_arg0) : IVec S_ 32) (Shape.Idx.first Cert.ReferenceIdeal.Gen.h_S_) = word m c :=
    congrArg (m ((c : Thread nD τ).loc main_arg0)) (funext fun a => a.elim0)
  obtain ⟨h0, hl⟩ := word_lt h c
  funext j
  obtain ⟨r, e, rfl⟩ : ∃ (r : Fin 32768) (e : Fin 64), j = ix2 r e := ⟨j (0 : Fin 2), j (1 : Fin 2), eq_ix2 j⟩
  rw [result_apply m (inRange h) c hl r e, Ref.out_apply _ _ _ (hw ▸ h0) (hw ▸ hl)]
  exact congrArg (fun l => score _ _ l r e) (Fin.ext (congrArg BitVec.toNat hw))

/-- Over the extended reals the kernel and the reference end with the same result. -/
theorem algebraic : Cert.algebraic_KernelIdeal_ReferenceIdeal := by
  intro m g m' g' h hagree
  refine ⟨fun c => transpose S32768x64 [1, 0] (finalA m (inRange h) c 1 : Vec Ideal S64x32768 .f32) transposes_S64x32768_S32768x64_1_0,
    (θ_run defs _ _).mono (fun _ H => H.1) (run m g (inRange h)),
    (θ_run Cert.ReferenceIdeal.defs _ _).mono (fun _ H c => ⟨(H c).1.trans ?_, (H c).2⟩) (Ref.run m' g')⟩
  obtain ⟨e0, e1, e2⟩ := hagree c
  exact (congr (congrArg₂ Ref.out e0 e1) e2).trans (results_equal m h c)

/-- The certificate. -/
theorem claim : Cert.Claim :=
  ⟨Cert.Kernel.Gen.facts, Cert.KernelIdeal.Gen.facts, Cert.ReferenceIdeal.Gen.facts, Cert.Pre_layer_in_range.Gen.facts,
    fun m g h => frame_printed m g h, fun m g h => frame m g h, fun m g _ => Ref.frame m g, fun m g _ => Ref.frame m g,
    trivial, algebraic⟩

end Cert.Proof

end
